-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S64x1x2x32x32 : Shape := ⟨5, ![64, 1, 2, 32, 32]⟩
abbrev S64x24x1x32x32 : Shape := ⟨5, ![64, 24, 1, 32, 32]⟩
abbrev S64x8x1 : Shape := ⟨3, ![64, 8, 1]⟩
abbrev S64x1x32x32 : Shape := ⟨4, ![64, 1, 32, 32]⟩
abbrev S2x128 : Shape := ⟨2, ![2, 128]⟩
abbrev S32x256 : Shape := ⟨2, ![32, 256]⟩
abbrev S256 : Shape := ⟨1, ![256]⟩
abbrev S_ : Shape := ⟨0, ![]⟩
abbrev S1x128 : Shape := ⟨2, ![1, 128]⟩
abbrev S128 : Shape := ⟨1, ![128]⟩

class Facts : Prop where
  bcast_S_S64x1x2x32x32 : S_.BroadcastsInDim S64x1x2x32x32 (![] : Fin 0 → Fin S64x1x2x32x32.rank)
  slices_S2x128_S1x128_0_0 : S2x128.Slices ![0, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : IVec S64x1x2x32x32 32) (main_arg1 : FVec F S64x1x2x32x32 .f32) (main_arg2 : FVec F S64x24x1x32x32 .f32) (main_arg3 : FVec F S64x8x1 .f32) (main_arg4 : FVec F S64x1x32x32 .f32) (main_arg5 : FVec F S2x128 .f32) (main_arg6 : FVec F S32x256 .f32) (main_arg7 : FVec F S256 .f32) : IVec S64x1x2x32x32 1 × IVec S128 1 :=
  let main_c : IVec S_ 32 := constantI S_ 32 0#32
  let main_v0 : IVec S64x1x2x32x32 32 := broadcastInDim S64x1x2x32x32 ![] bcast_S_S64x1x2x32x32 main_c
  let main_v1 : IVec S64x1x2x32x32 1 := cmpi .sge main_arg0 main_v0
  let main_c_0 : IVec S_ 32 := constantI S_ 32 2#32
  let main_v2 : IVec S64x1x2x32x32 32 := broadcastInDim S64x1x2x32x32 ![] bcast_S_S64x1x2x32x32 main_c_0
  let main_v3 : IVec S64x1x2x32x32 1 := cmpi .slt main_arg0 main_v2
  let main_v4 : IVec S64x1x2x32x32 1 := andi main_v1 main_v3
  let main_v5 : FVec F S1x128 .f32 := (extractStridedSlice S1x128 ![0, 0] · slices_S2x128_S1x128_0_0) main_arg5
  let main_v6 : FVec F S128 .f32 := shapeCast S128 main_v5 shapeCasts_S1x128_S128
  let main_cst : FVec F S_ .f32 := constant S_ .f32 0x00000000#32
  let main_v7 : FVec F S128 .f32 := broadcastInDim S128 ![] bcast_S_S128 main_cst
  let main_v8 : IVec S128 1 := cmpf .oeq main_v6 main_v7
  (main_v4, main_v8)
-- ==== Kernel.lean ====
abbrev S64x1x2x32x32 : Shape := ⟨5, ![64, 1, 2, 32, 32]⟩
abbrev S64x24x1x32x32 : Shape := ⟨5, ![64, 24, 1, 32, 32]⟩
abbrev S64x8x1 : Shape := ⟨3, ![64, 8, 1]⟩
abbrev S64x1x32x32 : Shape := ⟨4, ![64, 1, 32, 32]⟩
abbrev S2x128 : Shape := ⟨2, ![2, 128]⟩
abbrev S32x256 : Shape := ⟨2, ![32, 256]⟩
abbrev S256 : Shape := ⟨1, ![256]⟩
abbrev S64x2x1024 : Shape := ⟨3, ![64, 2, 1024]⟩
abbrev S64x24x1024 : Shape := ⟨3, ![64, 24, 1024]⟩
abbrev S64x1x1024 : Shape := ⟨3, ![64, 1, 1024]⟩
abbrev S256x32 : Shape := ⟨2, ![256, 32]⟩
abbrev S256x1 : Shape := ⟨2, ![256, 1]⟩
abbrev S1x128 : Shape := ⟨2, ![1, 128]⟩
abbrev S128 : Shape := ⟨1, ![128]⟩
abbrev S128x1 : Shape := ⟨2, ![128, 1]⟩
abbrev S64x2x256x1024 : Shape := ⟨4, ![64, 2, 256, 1024]⟩
abbrev S1x2x1024 : Shape := ⟨3, ![1, 2, 1024]⟩
abbrev S1x24x1024 : Shape := ⟨3, ![1, 24, 1024]⟩
abbrev S1x8x1 : Shape := ⟨3, ![1, 8, 1]⟩
abbrev S1x1x1024 : Shape := ⟨3, ![1, 1, 1024]⟩
abbrev S1x2x256x1024 : Shape := ⟨4, ![1, 2, 256, 1024]⟩
abbrev S1x1024 : Shape := ⟨2, ![1, 1024]⟩
abbrev S24x1024 : Shape := ⟨2, ![24, 1024]⟩
abbrev S8x1 : Shape := ⟨2, ![8, 1]⟩
abbrev S8x1024 : Shape := ⟨2, ![8, 1024]⟩
abbrev S32x1024 : Shape := ⟨2, ![32, 1024]⟩
abbrev S256x1024 : Shape := ⟨2, ![256, 1024]⟩
abbrev S2x1024 : Shape := ⟨2, ![2, 1024]⟩
abbrev S128x1024 : Shape := ⟨2, ![128, 1024]⟩
abbrev S1x1x256x1024 : Shape := ⟨4, ![1, 1, 256, 1024]⟩
abbrev S128x256x32x32 : Shape := ⟨4, ![128, 256, 32, 32]⟩
abbrev S64x1x1x32x32 : Shape := ⟨5, ![64, 1, 1, 32, 32]⟩
abbrev S64x2x1x32x32 : Shape := ⟨5, ![64, 2, 1, 32, 32]⟩
abbrev S128x1x32x32 : Shape := ⟨4, ![128, 1, 32, 32]⟩

abbrev nBuf : Space → Nat
  | .hbm => 22
  | .vmem => 15
  | .smem => 0
  | _ => 0

abbrev bufTy : (tb : Table) → Fin (tcTables nBuf tb) → BufTy
  | .hbm, ⟨0, _⟩ => ⟨S64x1x2x32x32, .i32⟩
  | .hbm, ⟨1, _⟩ => ⟨S64x1x2x32x32, .f32⟩
  | .hbm, ⟨2, _⟩ => ⟨S64x24x1x32x32, .f32⟩
  | .hbm, ⟨3, _⟩ => ⟨S64x8x1, .f32⟩
  | .hbm, ⟨4, _⟩ => ⟨S64x1x32x32, .f32⟩
  | .hbm, ⟨5, _⟩ => ⟨S2x128, .f32⟩
  | .hbm, ⟨6, _⟩ => ⟨S32x256, .f32⟩
  | .hbm, ⟨7, _⟩ => ⟨S256, .f32⟩
  | .hbm, ⟨8, _⟩ => ⟨S64x2x1024, .i32⟩
  | .hbm, ⟨9, _⟩ => ⟨S64x2x1024, .f32⟩
  | .hbm, ⟨10, _⟩ => ⟨S64x24x1024, .f32⟩
  | .hbm, ⟨11, _⟩ => ⟨S64x1x1024, .f32⟩
  | .hbm, ⟨12, _⟩ => ⟨S256x32, .f32⟩
  | .hbm, ⟨13, _⟩ => ⟨S256x1, .f32⟩
  | .hbm, ⟨14, _⟩ => ⟨S1x128, .f32⟩
  | .hbm, ⟨15, _⟩ => ⟨S128, .f32⟩
  | .hbm, ⟨16, _⟩ => ⟨S128x1, .f32⟩
  | .hbm, ⟨17, _⟩ => ⟨S64x2x256x1024, .f32⟩
  | .hbm, ⟨18, _⟩ => ⟨S128x256x32x32, .f32⟩
  | .hbm, ⟨19, _⟩ => ⟨S64x1x1x32x32, .f32⟩
  | .hbm, ⟨20, _⟩ => ⟨S64x2x1x32x32, .f32⟩
  | .hbm, ⟨21, _⟩ => ⟨S128x1x32x32, .f32⟩
  | .local _ .vmem, ⟨0, _⟩ => ⟨S1x2x1024, .i32⟩
  | .local _ .vmem, ⟨1, _⟩ => ⟨S1x2x1024, .i32⟩
  | .local _ .vmem, ⟨2, _⟩ => ⟨S1x2x1024, .f32⟩
  | .local _ .vmem, ⟨3, _⟩ => ⟨S1x2x1024, .f32⟩
  | .local _ .vmem, ⟨4, _⟩ => ⟨S1x24x1024, .f32⟩
  | .local _ .vmem, ⟨5, _⟩ => ⟨S1x24x1024, .f32⟩
  | .local _ .vmem, ⟨6, _⟩ => ⟨S1x8x1, .f32⟩
  | .local _ .vmem, ⟨7, _⟩ => ⟨S1x8x1, .f32⟩
  | .local _ .vmem, ⟨8, _⟩ => ⟨S1x1x1024, .f32⟩
  | .local _ .vmem, ⟨9, _⟩ => ⟨S1x1x1024, .f32⟩
  | .local _ .vmem, ⟨10, _⟩ => ⟨S256x32, .f32⟩
  | .local _ .vmem, ⟨11, _⟩ => ⟨S256x1, .f32⟩
  | .local _ .vmem, ⟨12, _⟩ => ⟨S128x1, .f32⟩
  | .local _ .vmem, ⟨13, _⟩ => ⟨S1x2x256x1024, .f32⟩
  | .local _ .vmem, ⟨14, _⟩ => ⟨S1x2x256x1024, .f32⟩
  | _, _ => ⟨S64x1x2x32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x1x2x32x32 : Shape := ⟨5, ![64, 1, 2, 32, 32]⟩
abbrev S64x24x1x32x32 : Shape := ⟨5, ![64, 24, 1, 32, 32]⟩
abbrev S64x8x1 : Shape := ⟨3, ![64, 8, 1]⟩
abbrev S64x1x32x32 : Shape := ⟨4, ![64, 1, 32, 32]⟩
abbrev S2x128 : Shape := ⟨2, ![2, 128]⟩
abbrev S32x256 : Shape := ⟨2, ![32, 256]⟩
abbrev S256 : Shape := ⟨1, ![256]⟩
abbrev S2x2 : Shape := ⟨2, ![2, 2]⟩
abbrev S2x1 : Shape := ⟨2, ![2, 1]⟩
abbrev S64x2x1x32x32 : Shape := ⟨5, ![64, 2, 1, 32, 32]⟩
abbrev S128x1x32x32 : Shape := ⟨4, ![128, 1, 32, 32]⟩
abbrev S_ : Shape := ⟨0, ![]⟩
abbrev S2x2x1 : Shape := ⟨3, ![2, 2, 1]⟩
abbrev S64x1x2x2x32x32 : Shape := ⟨6, ![64, 1, 2, 2, 32, 32]⟩
abbrev S64x2x1x2x32x32 : Shape := ⟨6, ![64, 2, 1, 2, 32, 32]⟩
abbrev S128x1x2x32x32 : Shape := ⟨5, ![128, 1, 2, 32, 32]⟩
abbrev S128x2x32x32 : Shape := ⟨4, ![128, 2, 32, 32]⟩
abbrev S128x2x32x32x1 : Shape := ⟨5, ![128, 2, 32, 32, 1]⟩
abbrev S1 : Shape := ⟨1, ![1]⟩
abbrev S1x1x1x1x1 : Shape := ⟨5, ![1, 1, 1, 1, 1]⟩
abbrev S128x2x32x32x128 : Shape := ⟨5, ![128, 2, 32, 32, 128]⟩
abbrev S128x2x128x32x32 : Shape := ⟨5, ![128, 2, 128, 32, 32]⟩
abbrev S128x256x32x32 : Shape := ⟨4, ![128, 256, 32, 32]⟩
abbrev S128x2x1x32x32 : Shape := ⟨5, ![128, 2, 1, 32, 32]⟩
abbrev S2x1x1 : Shape := ⟨3, ![2, 1, 1]⟩
abbrev S64x24x2x1x32x32 : Shape := ⟨6, ![64, 24, 2, 1, 32, 32]⟩
abbrev S64x2x24x1x32x32 : Shape := ⟨6, ![64, 2, 24, 1, 32, 32]⟩
abbrev S128x24x1x32x32 : Shape := ⟨5, ![128, 24, 1, 32, 32]⟩
abbrev S128x24x32x32 : Shape := ⟨4, ![128, 24, 32, 32]⟩
abbrev S64x8x2x1 : Shape := ⟨4, ![64, 8, 2, 1]⟩
abbrev S64x2x8x1 : Shape := ⟨4, ![64, 2, 8, 1]⟩
abbrev S128x8x1 : Shape := ⟨3, ![128, 8, 1]⟩
abbrev S128x8 : Shape := ⟨2, ![128, 8]⟩
abbrev S128x8x1x1 : Shape := ⟨4, ![128, 8, 1, 1]⟩
abbrev S128x8x32x32 : Shape := ⟨4, ![128, 8, 32, 32]⟩
abbrev S128x32x32x32 : Shape := ⟨4, ![128, 32, 32, 32]⟩
abbrev S256x128x32x32 : Shape := ⟨4, ![256, 128, 32, 32]⟩
abbrev S1x256x1x1 : Shape := ⟨4, ![1, 256, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S64x1x2x32x32, .i32⟩
  | .hbm, ⟨1, _⟩ => ⟨S64x1x2x32x32, .f32⟩
  | .hbm, ⟨2, _⟩ => ⟨S64x24x1x32x32, .f32⟩
  | .hbm, ⟨3, _⟩ => ⟨S64x8x1, .f32⟩
  | .hbm, ⟨4, _⟩ => ⟨S64x1x32x32, .f32⟩
  | .hbm, ⟨5, _⟩ => ⟨S2x128, .f32⟩
  | .hbm, ⟨6, _⟩ => ⟨S32x256, .f32⟩
  | .hbm, ⟨7, _⟩ => ⟨S256, .f32⟩
  | .hbm, ⟨8, _⟩ => ⟨S2x2, .i32⟩
  | .hbm, ⟨9, _⟩ => ⟨S2x2, .i1⟩
  | .hbm, ⟨10, _⟩ => ⟨S2x2, .i32⟩
  | .hbm, ⟨11, _⟩ => ⟨S2x2, .i1⟩
  | .hbm, ⟨12, _⟩ => ⟨S2x1, .i32⟩
  | .hbm, ⟨13, _⟩ => ⟨S2x1, .i1⟩
  | .hbm, ⟨14, _⟩ => ⟨S2x1, .i32⟩
  | .hbm, ⟨15, _⟩ => ⟨S2x1, .i1⟩
  | .hbm, ⟨16, _⟩ => ⟨S64x2x1x32x32, .f32⟩
  | .hbm, ⟨17, _⟩ => ⟨S128x1x32x32, .f32⟩
  | .hbm, ⟨18, _⟩ => ⟨S_, .i32⟩
  | .hbm, ⟨19, _⟩ => ⟨S2x2, .i32⟩
  | .hbm, ⟨20, _⟩ => ⟨S2x2, .i32⟩
  | .hbm, ⟨21, _⟩ => ⟨S2x2, .i32⟩
  | .hbm, ⟨22, _⟩ => ⟨S2x2x1, .i32⟩
  | .hbm, ⟨23, _⟩ => ⟨S64x1x2x2x32x32, .i32⟩
  | .hbm, ⟨24, _⟩ => ⟨S64x2x1x2x32x32, .i32⟩
  | .hbm, ⟨25, _⟩ => ⟨S128x1x2x32x32, .i32⟩
  | .hbm, ⟨26, _⟩ => ⟨S128x2x32x32, .i32⟩
  | .hbm, ⟨27, _⟩ => ⟨S_, .i32⟩
  | .hbm, ⟨28, _⟩ => ⟨S128x2x32x32, .i32⟩
  | .hbm, ⟨29, _⟩ => ⟨S128x2x32x32, .i1⟩
  | .hbm, ⟨30, _⟩ => ⟨S_, .i32⟩
  | .hbm, ⟨31, _⟩ => ⟨S128x2x32x32, .i32⟩
  | .hbm, ⟨32, _⟩ => ⟨S128x2x32x32, .i32⟩
  | .hbm, ⟨33, _⟩ => ⟨S128x2x32x32, .i32⟩
  | .hbm, ⟨34, _⟩ => ⟨S128x2x32x32x1, .i32⟩
  | .hbm, ⟨35, _⟩ => ⟨S1, .i32⟩
  | .hbm, ⟨36, _⟩ => ⟨S_, .i32⟩
  | .hbm, ⟨37, _⟩ => ⟨S128x2x32x32x1, .i32⟩
  | .hbm, ⟨38, _⟩ => ⟨S128x2x32x32x1, .i1⟩
  | .hbm, ⟨39, _⟩ => ⟨S1x1x1x1x1, .i32⟩
  | .hbm, ⟨40, _⟩ => ⟨S128x2x32x32x1, .i32⟩
  | .hbm, ⟨41, _⟩ => ⟨S128x2x32x32x1, .i1⟩
  | .hbm, ⟨42, _⟩ => ⟨S128x2x32x32x1, .i1⟩
  | .hbm, ⟨43, _⟩ => ⟨S_, .i1⟩
  | .hbm, ⟨44, _⟩ => ⟨S128x2x32x32, .i1⟩
  | .hbm, ⟨45, _⟩ => ⟨S128x2x32x32x128, .f32⟩
  | .hbm, ⟨46, _⟩ => ⟨S128x2x32x32x128, .i1⟩
  | .hbm, ⟨47, _⟩ => ⟨S_, .f32⟩
  | .hbm, ⟨48, _⟩ => ⟨S128x2x32x32x128, .f32⟩
  | .hbm, ⟨49, _⟩ => ⟨S128x2x32x32x128, .f32⟩
  | .hbm, ⟨50, _⟩ => ⟨S128x2x128x32x32, .f32⟩
  | .hbm, ⟨51, _⟩ => ⟨S128x256x32x32, .f32⟩
  | .hbm, ⟨52, _⟩ => ⟨S128x256x32x32, .f32⟩
  | .hbm, ⟨53, _⟩ => ⟨S128x256x32x32, .f32⟩
  | .hbm, ⟨54, _⟩ => ⟨S_, .i32⟩
  | .hbm, ⟨55, _⟩ => ⟨S2x2, .i32⟩
  | .hbm, ⟨56, _⟩ => ⟨S2x2, .i32⟩
  | .hbm, ⟨57, _⟩ => ⟨S2x2, .i32⟩
  | .hbm, ⟨58, _⟩ => ⟨S2x2x1, .i32⟩
  | .hbm, ⟨59, _⟩ => ⟨S64x1x2x2x32x32, .f32⟩
  | .hbm, ⟨60, _⟩ => ⟨S64x2x1x2x32x32, .f32⟩
  | .hbm, ⟨61, _⟩ => ⟨S128x1x2x32x32, .f32⟩
  | .hbm, ⟨62, _⟩ => ⟨S128x2x32x32, .f32⟩
  | .hbm, ⟨63, _⟩ => ⟨S128x2x128x32x32, .f32⟩
  | .hbm, ⟨64, _⟩ => ⟨S128x2x1x32x32, .f32⟩
  | .hbm, ⟨65, _⟩ => ⟨S128x2x128x32x32, .f32⟩
  | .hbm, ⟨66, _⟩ => ⟨S128x2x128x32x32, .f32⟩
  | .hbm, ⟨67, _⟩ => ⟨S128x256x32x32, .f32⟩
  | .hbm, ⟨68, _⟩ => ⟨S_, .i32⟩
  | .hbm, ⟨69, _⟩ => ⟨S2x1, .i32⟩
  | .hbm, ⟨70, _⟩ => ⟨S2x1, .i32⟩
  | .hbm, ⟨71, _⟩ => ⟨S2x1, .i32⟩
  | .hbm, ⟨72, _⟩ => ⟨S2x1x1, .i32⟩
  | .hbm, ⟨73, _⟩ => ⟨S64x24x2x1x32x32, .f32⟩
  | .hbm, ⟨74, _⟩ => ⟨S64x2x24x1x32x32, .f32⟩
  | .hbm, ⟨75, _⟩ => ⟨S128x24x1x32x32, .f32⟩
  | .hbm, ⟨76, _⟩ => ⟨S128x24x32x32, .f32⟩
  | .hbm, ⟨77, _⟩ => ⟨S128x24x32x32, .f32⟩
  | .hbm, ⟨78, _⟩ => ⟨S128x24x32x32, .f32⟩
  | .hbm, ⟨79, _⟩ => ⟨S_, .i32⟩
  | .hbm, ⟨80, _⟩ => ⟨S2x1, .i32⟩
  | .hbm, ⟨81, _⟩ => ⟨S2x1, .i32⟩
  | .hbm, ⟨82, _⟩ => ⟨S2x1, .i32⟩
  | .hbm, ⟨83, _⟩ => ⟨S2x1x1, .i32⟩
  | .hbm, ⟨84, _⟩ => ⟨S64x8x2x1, .f32⟩
  | .hbm, ⟨85, _⟩ => ⟨S64x2x8x1, .f32⟩
  | .hbm, ⟨86, _⟩ => ⟨S128x8x1, .f32⟩
  | .hbm, ⟨87, _⟩ => ⟨S128x8, .f32⟩
  | .hbm, ⟨88, _⟩ => ⟨S128x8x1x1, .f32⟩
  | .hbm, ⟨89, _⟩ => ⟨S128x8x32x32, .f32⟩
  | .hbm, ⟨90, _⟩ => ⟨S128x8x32x32, .f32⟩
  | .hbm, ⟨91, _⟩ => ⟨S128x8x32x32, .f32⟩
  | .hbm, ⟨92, _⟩ => ⟨S128x32x32x32, .f32⟩
  | .hbm, ⟨93, _⟩ => ⟨S256x128x32x32, .f32⟩
  | .hbm, ⟨94, _⟩ => ⟨S128x256x32x32, .f32⟩
  | .hbm, ⟨95, _⟩ => ⟨S1x256x1x1, .f32⟩
  | .hbm, ⟨96, _⟩ => ⟨S128x256x32x32, .f32⟩
  | .hbm, ⟨97, _⟩ => ⟨S128x256x32x32, .f32⟩
  | .hbm, ⟨98, _⟩ => ⟨S128x256x32x32, .f32⟩
  | _, _ => ⟨S64x1x2x32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_v0 : Ref sig .tc := ⟨.hbm, 16, rfl⟩
abbrev main_v1 : Ref sig .tc := ⟨.hbm, 17, rfl⟩
abbrev main_c_7 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_8 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_10 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩

abbrev nD : Nat := 1
abbrev τ : Topo := Topo.v7x

variable {F : FTy → Type} [FloatOps F]
-- ==== Proof.Pre.lean ====
module

public import proofs.«01_k».proof.Proof.Gen.Pre_inputs_ok
public import Idealize.ShloMosaic.Lib.Pointwise
public import Idealize.ShloMosaic.Lib.WordCmp
public import Idealize.ShloMosaic.PureOps.Ideal.Laws

@[expose] public section

set_option maxRecDepth 16384

noncomputable section

/-! # What the precondition says of the arguments: every player's word is 0 or 1, and row 0 of the table is zero -/

open Idealize.ShloMosaic

namespace Cert.Pre_inputs_ok.Read

open Cert.Pre_inputs_ok Cert.Pre_inputs_ok.Gen

/-- A word that compares signed at least 0 and below 2 is 0 or 1. -/
theorem word_two (x : BitVec 32) (h : IntOp.andi (IntOp.cmpi .sge x 0#32) (IntOp.cmpi .slt x 2#32) = 1#1) :
    ∃ r : Fin 2, x = BitVec.ofNat 32 r.val := by
  have both : ∀ p q : Bool, BitVec.ofBool p &&& BitVec.ofBool q = 1#1 → p = true ∧ q = true := by decide
  obtain ⟨hp, hq⟩ := both (decide ((0#32 : BitVec 32).toInt ≤ x.toInt)) (decide (x.toInt < (2#32 : BitVec 32).toInt)) h
  have hp' : (0 : Int) ≤ x.toInt := of_decide_eq_true hp
  have hq' : x.toInt < (2 : Int) := of_decide_eq_true hq
  rcases (show x.toInt = 0 ∨ x.toInt = 1 by omega) with e | e
  · exact ⟨0, BitVec.eq_of_toInt_eq (e.trans (by decide))⟩
  · exact ⟨1, BitVec.eq_of_toInt_eq (e.trans (by decide))⟩

variable (A0 : IVec S64x1x2x32x32 32) (A1 : FVec Ideal S64x1x2x32x32 .f32) (A2 : FVec Ideal S64x24x1x32x32 .f32)
  (A3 : FVec Ideal S64x8x1 .f32) (A4 : FVec Ideal S64x1x32x32 .f32) (A5 : FVec Ideal S2x128 .f32)
  (A6 : FVec Ideal S32x256 .f32) (A7 : FVec Ideal S256 .f32)

/-- Every player's word is 0 or 1. -/
theorem units_two (h : (fn (F := Ideal) A0 A1 A2 A3 A4 A5 A6 A7).1 = fun _ => 1#1) (i : S64x1x2x32x32.Idx) :
    ∃ r : Fin 2, A0 i = BitVec.ofNat 32 r.val :=
  word_two (A0 i) (congrFun h i)

/-- Row 0 of the table is zero. -/
theorem row_zero (h : (fn (F := Ideal) A0 A1 A2 A3 A4 A5 A6 A7).2 = fun _ => 1#1) (q : Fin 128) :
    A5 (ix2 0 q) = (0 : EReal) := by
  have e := congrFun h (ix1 q)
  unfold fn at e
  dsimp only at e
  have one : ∀ p : Bool, BitVec.ofBool p = 1#1 → p = true := by decide
  have e' : shapeCast S128 (extractStridedSlice S1x128 ![0, 0] A5 Facts.slices_S2x128_S1x128_0_0) Facts.shapeCasts_S1x128_S128 (ix1 q)
      = Ideal.ofBits .f32 0x00000000#32 := of_decide_eq_true (one _ e)
  have l : shapeCast S128 (extractStridedSlice S1x128 ![0, 0] A5 Facts.slices_S2x128_S1x128_0_0) Facts.shapeCasts_S1x128_S128 (ix1 q)
      = A5 (ix2 0 q) := by
    pointwise []
  have z : (Ideal.ofBits .f32 0x00000000#32 : EReal) = 0 := by
    simp
  exact l.symm.trans (e'.trans z)

end Cert.Pre_inputs_ok.Read

end
-- ==== Proof.Gathers.lean ====
module

public import proofs.«01_k».proof.Proof.Gen.ReferenceIdeal
public import Idealize.ShloMosaic.Lib.ValueIdxCore

@[expose] public section

set_option maxRecDepth 16384

/-! # The reference's four gathers, each read at an index of its result -/

namespace Cert.ReferenceIdeal.Gathers

open Cert.ReferenceIdeal Cert.ReferenceIdeal.Gen Idealize.ShloMosaic Idealize.ShloMosaic.ValueIdx

variable {α : Type}

/-- The gather of two copies of the player axis of a `[64, 1, 2, 32, 32]` array: the entry at copy `y 2` and player `y 3`
    is the operand's at the player the table names there, clamped to the two players. -/
theorem players_apply (x : S64x1x2x32x32.Idx → α) (idx : IVec S2x2x1 32) (y : S64x1x2x2x32x32.Idx) :
    Host.gather gather_S64x1x2x32x32_S2x2x1_S64x1x2x2x32x32_0145_2_n_n_2_2_64113232 x idx y
      = x (ix5 (y 0) (y 1) ⟨min (idx (ix3 (y 2) (y 3) 0)).toInt.toNat 1, by omega⟩ (y 4) (y 5)) := by
  unfold Host.gather
  congr 1
  funext a
  refine Fin.ext ?_
  match a with
  | ⟨0, _⟩ => exact (Nat.zero_add _)
  | ⟨1, _⟩ => exact (Nat.zero_add _)
  | ⟨2, _⟩ =>
    show min (idx _).toInt.toNat 1 = min (idx _).toInt.toNat 1
    congr 4
    funext b
    match b with
    | ⟨0, _⟩ => rfl
    | ⟨1, _⟩ => rfl
    | ⟨2, _⟩ => rfl
  | ⟨3, _⟩ => exact (Nat.zero_add _)
  | ⟨4, _⟩ => exact (Nat.zero_add _)

/-- The gather of two copies of the unit axis of a `[64, 24, 1, 32, 32]` array: every copy is the array itself. -/
theorem rows_apply (x : S64x24x1x32x32.Idx → α) (idx : IVec S2x1x1 32) (y : S64x24x2x1x32x32.Idx) :
    Host.gather gather_S64x24x1x32x32_S2x1x1_S64x24x2x1x32x32_0145_2_n_n_2_2_642413232 x idx y
      = x (ix5 (y 0) (y 1) 0 (y 4) (y 5)) := by
  unfold Host.gather
  congr 1
  funext a
  refine Fin.ext ?_
  match a with
  | ⟨0, _⟩ => exact (Nat.zero_add _)
  | ⟨1, _⟩ => exact (Nat.zero_add _)
  | ⟨2, _⟩ => exact Nat.min_zero _
  | ⟨3, _⟩ => exact (Nat.zero_add _)
  | ⟨4, _⟩ => exact (Nat.zero_add _)

/-- The gather of two copies of the unit axis of a `[64, 8, 1]` array: every copy is the array itself. -/
theorem globals_apply (x : S64x8x1.Idx → α) (idx : IVec S2x1x1 32) (y : S64x8x2x1.Idx) :
    Host.gather gather_S64x8x1_S2x1x1_S64x8x2x1_01_2_n_n_2_2_6481 x idx y = x (ix3 (y 0) (y 1) 0) := by
  unfold Host.gather
  congr 1
  funext a
  refine Fin.ext ?_
  match a with
  | ⟨0, _⟩ => exact (Nat.zero_add _)
  | ⟨1, _⟩ => exact (Nat.zero_add _)
  | ⟨2, _⟩ => exact Nat.min_zero _

/-- The look-up of rows of the `[2, 128]` table: the entry is the table's, in the row that the word names, clamped to the
    two rows. -/
theorem table_apply (x : S2x128.Idx → α) (idx : IVec S128x2x32x32x1 32) (y : S128x2x32x32x128.Idx) :
    Host.gather gather_S2x128_S128x2x32x32x1_S128x2x32x32x128_4_0_n_n_0_4_1128 x idx y
      = x (ix2 ⟨min (idx (ix5 (y 0) (y 1) (y 2) (y 3) 0)).toInt.toNat 1, by omega⟩ (y 4)) := by
  unfold Host.gather
  congr 1
  funext a
  refine Fin.ext ?_
  match a with
  | ⟨0, _⟩ =>
    show min (idx _).toInt.toNat 1 = min (idx _).toInt.toNat 1
    congr 4
    funext b
    match b with
    | ⟨0, _⟩ => rfl
    | ⟨1, _⟩ => rfl
    | ⟨2, _⟩ => rfl
    | ⟨3, _⟩ => rfl
    | ⟨4, _⟩ => rfl
  | ⟨1, _⟩ => exact (Nat.zero_add _)

end Cert.ReferenceIdeal.Gathers
-- ==== Proof.RefPieces.lean ====
module

public import proofs.«01_k».proof.Proof.Gen.ReferenceIdeal.Run
public import proofs.«01_k».proof.Proof.Gathers
public import Idealize.ShloMosaic.Lib.Pointwise

@[expose] public section

set_option maxRecDepth 16384

noncomputable section

/-! # The arrays the reference builds from its arguments, each read at an entry -/

open Idealize.ShloMosaic Idealize.ShloMosaic.TcCoe Idealize.SL.Sem

namespace Cert.ReferenceIdeal.Pieces

open Cert.ReferenceIdeal Cert.ReferenceIdeal.Gen Cert.ReferenceIdeal.Gathers

/-- The mask, repeated for the two copies of each batch. -/
def mask (A4 : FVec Ideal S64x1x32x32 .f32) : FVec Ideal S128x1x32x32 .f32 :=
  shapeCast _ (broadcastInDim S64x2x1x32x32 ![0, 2, 3, 4] bcast_S64x1x32x32_S64x2x1x32x32_0_2_3_4 A4)
    shapeCasts_S64x2x1x32x32_S128x1x32x32

/-- The table of players: copy 0 takes them in order, copy 1 the other way round. -/
def order (l : Fin 4 → BitVec 32) : IVec S2x2x1 32 :=
  broadcastInDim S2x2x1 ![0, 1] bcast_S2x2_S2x2x1_0_1 (select (constantI S2x2 1 0#1)
    (addi (fun i => l (S2x2.rowMajor i)) (broadcastInDim S2x2 ![] bcast_S_S2x2 (constantI S_ 32 2#32)))
    (fun i => l (S2x2.rowMajor i)))

/-- A player array with a copy for each order of the players. -/
def swapped {α : Type} (l : Fin 4 → BitVec 32) (A : S64x1x2x32x32.Idx → α) : S128x2x32x32.Idx → α :=
  shapeCast _ (shapeCast _ (transpose S64x2x1x2x32x32 [0, 2, 1, 3, 4, 5]
    (Host.gather gather_S64x1x2x32x32_S2x2x1_S64x1x2x2x32x32_0145_2_n_n_2_2_64113232 A (order l))
    transposes_S64x1x2x2x32x32_S64x2x1x2x32x32_0_2_1_3_4_5) shapeCasts_S64x2x1x2x32x32_S128x1x2x32x32)
    shapeCasts_S128x1x2x32x32_S128x2x32x32

/-- The words looked up: a negative one counted from the table's end. -/
def words (U : IVec S128x2x32x32 32) : IVec S128x2x32x32x1 32 :=
  broadcastInDim S128x2x32x32x1 ![0, 1, 2, 3] bcast_S128x2x32x32_S128x2x32x32x1_0_1_2_3
    (select (cmpi .slt U (broadcastInDim S128x2x32x32 ![] bcast_S_S128x2x32x32 (constantI S_ 32 0#32)))
      (addi U (broadcastInDim S128x2x32x32 ![] bcast_S_S128x2x32x32 (constantI S_ 32 2#32))) U)

/-- Which of them name a row of the table. -/
def inTable (W : IVec S128x2x32x32x1 32) : IVec S128x2x32x32 1 :=
  Host.reduce IntOp.andi (andi
    (cmpi .sge W (broadcastInDim S128x2x32x32x1 ![] bcast_S_S128x2x32x32x1 (constantI S_ 32 0#32)))
    (cmpi .sle W (broadcastInDim S128x2x32x32x1 ![0, 1, 2, 3, 4] bcast_S1x1x1x1x1_S128x2x32x32x1_0_1_2_3_4
      (broadcastInDim S1x1x1x1x1 ![4] bcast_S1_S1x1x1x1x1_4 (constantI S1 32 1#32)))))
    (constantI S_ 1 1#1) reducesTo_S128x2x32x32x1_S128x2x32x32_d4 h_S_

/-- The looked-up rows. -/
def looked (A5 : FVec Ideal S2x128 .f32) (W : IVec S128x2x32x32x1 32) : FVec Ideal S128x2x32x32x128 .f32 :=
  select (broadcastInDim S128x2x32x32x128 ![0, 1, 2, 3] bcast_S128x2x32x32_S128x2x32x32x128_0_1_2_3 (inTable W))
    (Host.gather gather_S2x128_S128x2x32x32x1_S128x2x32x32x128_4_0_n_n_0_4_1128 A5 W)
    (broadcastInDim S128x2x32x32x128 ![] bcast_S_S128x2x32x32x128 (constant S_ .f32 0x7FC00000#32))

/-- The unit features: the looked-up rows, masked and counted. -/
def unitFeatures (A4 : FVec Ideal S64x1x32x32 .f32) (L : FVec Ideal S128x2x32x32x128 .f32) (C : FVec Ideal S128x2x32x32 .f32) :
    FVec Ideal S128x256x32x32 .f32 :=
  shapeCast _ (mulf (shapeCast _ (mulf (shapeCast _ (transpose S128x2x128x32x32 [0, 1, 4, 2, 3] L
      transposes_S128x2x32x32x128_S128x2x128x32x32_0_1_4_2_3) shapeCasts_S128x2x128x32x32_S128x256x32x32)
      (broadcastInDim S128x256x32x32 ![0, 1, 2, 3] bcast_S128x1x32x32_S128x256x32x32_0_1_2_3 (mask A4)))
      shapeCasts_S128x256x32x32_S128x2x128x32x32)
    (broadcastInDim S128x2x128x32x32 ![0, 1, 2, 3, 4] bcast_S128x2x1x32x32_S128x2x128x32x32_0_1_2_3_4
      (broadcastInDim S128x2x1x32x32 ![0, 1, 3, 4] bcast_S128x2x32x32_S128x2x1x32x32_0_1_3_4 C)))
    shapeCasts_S128x2x128x32x32_S128x256x32x32

/-- The table of the unit axis's one entry, twice. -/
def twice : IVec S2x1x1 32 :=
  broadcastInDim S2x1x1 ![0, 1] bcast_S2x1_S2x1x1_0_1 (select (constantI S2x1 1 0#1)
    (addi (constantI S2x1 32 0#32) (broadcastInDim S2x1 ![] bcast_S_S2x1 (constantI S_ 32 1#32))) (constantI S2x1 32 0#32))

/-- The masked row features. -/
def rows (A2 : FVec Ideal S64x24x1x32x32 .f32) (A4 : FVec Ideal S64x1x32x32 .f32) : FVec Ideal S128x24x32x32 .f32 :=
  mulf (shapeCast _ (shapeCast _ (transpose S64x2x24x1x32x32 [0, 2, 1, 3, 4, 5]
    (Host.gather gather_S64x24x1x32x32_S2x1x1_S64x24x2x1x32x32_0145_2_n_n_2_2_642413232 A2 twice)
    transposes_S64x24x2x1x32x32_S64x2x24x1x32x32_0_2_1_3_4_5) shapeCasts_S64x2x24x1x32x32_S128x24x1x32x32)
    shapeCasts_S128x24x1x32x32_S128x24x32x32)
    (broadcastInDim S128x24x32x32 ![0, 1, 2, 3] bcast_S128x1x32x32_S128x24x32x32_0_1_2_3 (mask A4))

/-- The masked global features. -/
def globals (A3 : FVec Ideal S64x8x1 .f32) (A4 : FVec Ideal S64x1x32x32 .f32) : FVec Ideal S128x8x32x32 .f32 :=
  mulf (broadcastInDim S128x8x32x32 ![0, 1, 2, 3] bcast_S128x8x1x1_S128x8x32x32_0_1_2_3
    (broadcastInDim S128x8x1x1 ![0, 1] bcast_S128x8_S128x8x1x1_0_1 (shapeCast _ (shapeCast _
      (transpose S64x2x8x1 [0, 2, 1, 3] (Host.gather gather_S64x8x1_S2x1x1_S64x8x2x1_01_2_n_n_2_2_6481 A3 twice)
        transposes_S64x8x2x1_S64x2x8x1_0_2_1_3) shapeCasts_S64x2x8x1_S128x8x1) shapeCasts_S128x8x1_S128x8)))
    (broadcastInDim S128x8x32x32 ![0, 1, 2, 3] bcast_S128x1x32x32_S128x8x32x32_0_1_2_3 (mask A4))

/-- The dense layer over the features, with its bias. -/
def dense (A6 : FVec Ideal S32x256 .f32) (A7 : FVec Ideal S256 .f32) (R : FVec Ideal S128x24x32x32 .f32)
    (G : FVec Ideal S128x8x32x32 .f32) : FVec Ideal S128x256x32x32 .f32 :=
  addf (transpose S128x256x32x32 [1, 0, 2, 3]
      (Host.dotGeneral dot_S32x256_S128x32x32x32_S256x128x32x32_0_1_1_023_n_n none A6
        (concatenate S128x32x32x32 1 [⟨S128x24x32x32, R⟩, ⟨S128x8x32x32, G⟩]
          concatenates_S128x24x32x32_S128x8x32x32_S128x32x32x32_d1))
      transposes_S256x128x32x32_S128x256x32x32_1_0_2_3)
    (broadcastInDim S128x256x32x32 ![0, 1, 2, 3] bcast_S1x256x1x1_S128x256x32x32_0_1_2_3
      (broadcastInDim S1x256x1x1 ![1] bcast_S256_S1x256x1x1_1 A7))

/-- The mask at a copy: batch `n / 2`'s mask. -/
theorem mask_apply (A4 : FVec Ideal S64x1x32x32 .f32) (n : Fin 128) (h w : Fin 32) :
    mask A4 (ix4 n 0 h w) = A4 (ix4 ⟨n.val / 2, by omega⟩ 0 h w) := by
  unfold mask
  pointwise []

/-- The players' table `0, 1, 1, 0` names player `(j + k) mod 2` at copy `k` and player `j`. -/
theorem order_apply (l : Fin 4 → BitVec 32) (h0 : l 0 = 0#32) (h1 : l 1 = 1#32) (h2 : l 2 = 1#32) (h3 : l 3 = 0#32)
    (k j : Fin 2) : min (order l (ix3 k j 0)).toInt.toNat 1 = (j.val + k.val) % 2 := by
  have e : order l (ix3 k j 0) = l (S2x2.rowMajor (ix2 k j)) := by
    unfold order
    pointwise []
  have row : ∀ k j : Fin 2, S2x2.rowMajor (ix2 k j) = (⟨2 * k.val + j.val, by omega⟩ : Fin 4) := by
    intro k j
    fin_cases k <;> fin_cases j <;> rfl
  have val : ∀ k j : Fin 2, l ⟨2 * k.val + j.val, by omega⟩ = BitVec.ofNat 32 ((j.val + k.val) % 2) := by
    intro k j
    fin_cases k <;> fin_cases j
    · exact h0
    · exact h1
    · exact h2
    · exact h3
  have num : ∀ k j : Fin 2, min (BitVec.ofNat 32 ((j.val + k.val) % 2)).toInt.toNat 1 = (j.val + k.val) % 2 := by decide
  rw [e, row, val, num]

/-- A player array's copies: batch `n / 2`'s player `j` in the order of copy `n mod 2`. -/
theorem swapped_apply {α : Type} (l : Fin 4 → BitVec 32) (h0 : l 0 = 0#32) (h1 : l 1 = 1#32) (h2 : l 2 = 1#32)
    (h3 : l 3 = 0#32) (A : S64x1x2x32x32.Idx → α) (n : Fin 128) (j : Fin 2) (h w : Fin 32) :
    swapped l A (ix4 n j h w)
      = A (ix5 ⟨n.val / 2, by omega⟩ 0 ⟨(j.val + n.val % 2) % 2, by omega⟩ h w) := by
  unfold swapped
  pointwise [players_apply]
  congr 2
  exact Fin.ext (order_apply l h0 h1 h2 h3 ⟨n.val % 2, by omega⟩ j)

/-- A word that is 0 or 1 is looked up as it is. -/
theorem words_apply (U : IVec S128x2x32x32 32) (n : Fin 128) (j : Fin 2) (h w : Fin 32)
    (hU : U (ix4 n j h w) = 0#32 ∨ U (ix4 n j h w) = 1#32) : words U (ix5 n j h w 0) = U (ix4 n j h w) := by
  unfold words
  pointwise []
  rcases hU with e | e <;> rw [e] <;> decide

/-- A word that is 0 or 1 names a row of the table. -/
theorem inTable_apply (W : IVec S128x2x32x32x1 32) (n : Fin 128) (j : Fin 2) (h w : Fin 32)
    (hW : W (ix5 n j h w 0) = 0#32 ∨ W (ix5 n j h w 0) = 1#32) : inTable W (ix4 n j h w) = 1#1 := by
  unfold inTable
  pointwise []
  rw [show (Finset.univ : Finset (Fin 1)) = {0} from rfl, Finset.fold_singleton]
  rcases hW with e | e <;> rw [e] <;> decide

/-- At a word that names a row, the looked-up row is the table's. -/
theorem looked_apply (A5 : FVec Ideal S2x128 .f32) (W : IVec S128x2x32x32x1 32) (n : Fin 128) (j : Fin 2) (h w : Fin 32)
    (q : Fin 128) (r : Fin 2) (hW : W (ix5 n j h w 0) = BitVec.ofNat 32 r.val) :
    looked A5 W (ix5 n j h w q) = A5 (ix2 r q) := by
  have hin : inTable W (ix4 n j h w) = 1#1 := inTable_apply W n j h w (by
    match r with
    | ⟨0, _⟩ => exact Or.inl hW
    | ⟨1, _⟩ => exact Or.inr hW)
  unfold looked
  pointwise [table_apply]
  rw [hin]
  show A5 _ = _
  refine congrArg (fun r' : Fin 2 => A5 (ix2 r' q)) (Fin.ext ?_)
  show min (W (ix5 n j h w 0)).toInt.toNat 1 = r.val
  rw [hW]
  have num : ∀ r : Fin 2, min (BitVec.ofNat 32 r.val).toInt.toNat 1 = r.val := by decide
  exact num r

/-- The unit features at channel `d`: the row looked up for player `d / 128`, at column `d mod 128`. -/
theorem unitFeatures_apply (A4 : FVec Ideal S64x1x32x32 .f32) (L : FVec Ideal S128x2x32x32x128 .f32)
    (C : FVec Ideal S128x2x32x32 .f32) (n : Fin 128) (d : Fin 256) (h w : Fin 32) :
    unitFeatures A4 L C (ix4 n d h w)
      = (L (ix5 n ⟨d.val / 128, by omega⟩ h w ⟨d.val % 128, by omega⟩) * A4 (ix4 ⟨n.val / 2, by omega⟩ 0 h w)
        * C (ix4 n ⟨d.val / 128, by omega⟩ h w) : EReal) := by
  unfold unitFeatures
  pointwise [mask_apply]

/-- The row features at a copy: batch `n / 2`'s row, masked. -/
theorem rows_at (A2 : FVec Ideal S64x24x1x32x32 .f32) (A4 : FVec Ideal S64x1x32x32 .f32) (n : Fin 128) (q : Fin 24)
    (h w : Fin 32) :
    rows A2 A4 (ix4 n q h w)
      = (A2 (ix5 ⟨n.val / 2, by omega⟩ q 0 h w) * A4 (ix4 ⟨n.val / 2, by omega⟩ 0 h w) : EReal) := by
  unfold rows
  pointwise [rows_apply, mask_apply]
  rfl

/-- The global features at a copy: batch `n / 2`'s globals, masked. -/
theorem globals_at (A3 : FVec Ideal S64x8x1 .f32) (A4 : FVec Ideal S64x1x32x32 .f32) (n : Fin 128) (q : Fin 8)
    (h w : Fin 32) :
    globals A3 A4 (ix4 n q h w)
      = (A3 (ix3 ⟨n.val / 2, by omega⟩ q 0) * A4 (ix4 ⟨n.val / 2, by omega⟩ 0 h w) : EReal) := by
  unfold globals
  pointwise [globals_apply, mask_apply]
  rfl

/-- The dense layer at channel `d`: the weights' column `d` against the row and the global features, plus the bias. -/
theorem dense_apply (A6 : FVec Ideal S32x256 .f32) (A7 : FVec Ideal S256 .f32) (R : FVec Ideal S128x24x32x32 .f32)
    (G : FVec Ideal S128x8x32x32 .f32) (n : Fin 128) (d : Fin 256) (h w : Fin 32) :
    dense A6 A7 R G (ix4 n d h w)
      = ((∑ q : Fin 24, A6 (ix2 ⟨q, by omega⟩ d) * R (ix4 n q h w))
        + (∑ q : Fin 8, A6 (ix2 ⟨24 + q, by omega⟩ d) * G (ix4 n q h w)) + A7 (ix1 d) : EReal) := by
  unfold dense
  pointwise []

end Cert.ReferenceIdeal.Pieces
-- ==== Proof.RefValue.lean ====
module

public import proofs.«01_k».proof.Proof.RefPieces
public import proofs.«01_k».proof.Proof.Gen.ReferenceIdeal.Run

@[expose] public section

set_option maxRecDepth 16384

/-!
What the reference computes, element by element: the dense layer over the masked row and global features, plus the unit
embedding of the player's word, masked and times the player's count.
-/

noncomputable section

namespace Cert.ReferenceIdeal.OutValue

open Idealize.ShloMosaic Idealize.ShloMosaic.TcCoe Idealize.SL.Sem Cert.ReferenceIdeal.Pieces

variable (m : (ℓ : Loc nD τ sig) → Buf (Elt Ideal) ℓ) (c : Dev nD)

/-- The players' words. -/
abbrev units : IVec S64x1x2x32x32 32 := m ((c.tc : Thread nD τ).loc main_arg0)
/-- The counts. -/
abbrev counts : FVec Ideal S64x1x2x32x32 .f32 := m ((c.tc : Thread nD τ).loc main_arg1)
/-- The row features. -/
abbrev rowIn : FVec Ideal S64x24x1x32x32 .f32 := m ((c.tc : Thread nD τ).loc main_arg2)
/-- The global features. -/
abbrev globalIn : FVec Ideal S64x8x1 .f32 := m ((c.tc : Thread nD τ).loc main_arg3)
/-- The mask. -/
abbrev maskIn : FVec Ideal S64x1x32x32 .f32 := m ((c.tc : Thread nD τ).loc main_arg4)
/-- The embedding table. -/
abbrev table : FVec Ideal S2x128 .f32 := m ((c.tc : Thread nD τ).loc main_arg5)
/-- The weights. -/
abbrev weights : FVec Ideal S32x256 .f32 := m ((c.tc : Thread nD τ).loc main_arg6)
/-- The bias. -/
abbrev bias : FVec Ideal S256 .f32 := m ((c.tc : Thread nD τ).loc main_arg7)

/-- The reference's first result is the dense layer plus the unit features, each of the pieces named before. -/
theorem out0_eq : Value.res_out0 m c
    = addf (dense (weights m c) (bias m c) (rows (rowIn m c) (maskIn m c)) (globals (globalIn m c) (maskIn m c)))
        (unitFeatures (maskIn m c) (looked (table m c) (words (swapped lit0 (units m c)))) (swapped lit1 (counts m c))) := by
  unfold Value.res_out0 Value.res_main_v56
  rfl

/-- The reference's first result at copy `n`, channel `d`, place `(h, w)`, where the player's word is the table's row `r`. -/
theorem out0_apply (n : Fin 128) (d : Fin 256) (h w : Fin 32) (r : Fin 2)
    (hr : units m c (ix5 ⟨n.val / 2, by omega⟩ 0 ⟨(d.val / 128 + n.val % 2) % 2, by omega⟩ h w) = BitVec.ofNat 32 r.val) :
    Value.res_out0 m c (ix4 n d h w)
      = ((∑ q : Fin 24, weights m c (ix2 ⟨q, by omega⟩ d)
            * (rowIn m c (ix5 ⟨n.val / 2, by omega⟩ q 0 h w) * maskIn m c (ix4 ⟨n.val / 2, by omega⟩ 0 h w)))
          + (∑ q : Fin 8, weights m c (ix2 ⟨24 + q, by omega⟩ d)
            * (globalIn m c (ix3 ⟨n.val / 2, by omega⟩ q 0) * maskIn m c (ix4 ⟨n.val / 2, by omega⟩ 0 h w)))
          + bias m c (ix1 d)
          + table m c (ix2 r ⟨d.val % 128, by omega⟩) * maskIn m c (ix4 ⟨n.val / 2, by omega⟩ 0 h w)
            * counts m c (ix5 ⟨n.val / 2, by omega⟩ 0 ⟨(d.val / 128 + n.val % 2) % 2, by omega⟩ h w) : EReal) := by
  have hU : swapped lit0 (units m c) (ix4 n ⟨d.val / 128, by omega⟩ h w) = BitVec.ofNat 32 r.val :=
    (swapped_apply lit0 rfl rfl rfl rfl _ n ⟨d.val / 128, by omega⟩ h w).trans hr
  have two : ∀ r : Fin 2, BitVec.ofNat 32 r.val = 0#32 ∨ BitVec.ofNat 32 r.val = 1#32 := by decide
  have hL := looked_apply (table m c) (words (swapped lit0 (units m c))) n ⟨d.val / 128, by omega⟩ h w
    ⟨d.val % 128, by omega⟩ r ((words_apply _ n _ h w (by rw [hU]; exact two r)).trans hU)
  rw [out0_eq]
  refine congrArg₂ (fun x y : EReal => x + y) ?_ ?_
  · refine (dense_apply _ _ _ _ n d h w).trans ?_
    simp only [rows_at, globals_at]
  · refine (unitFeatures_apply _ _ _ n d h w).trans ?_
    rw [hL, swapped_apply lit1 rfl rfl rfl rfl]

end Cert.ReferenceIdeal.OutValue

end
-- ==== Proof.Block.lean ====
module

public import proofs.«01_k».proof.Proof.Gen.KernelIdeal.Frame
public import Idealize.ShloMosaic.Lib.Pointwise

@[expose] public section

set_option maxRecDepth 16384

noncomputable section

/-! # What the kernel's body leaves in its output block, entry by entry -/

open Idealize.ShloMosaic Idealize.ShloMosaic.TcCoe Idealize.SL.Sem

namespace Cert.KernelIdeal.BlockValue

open Cert.KernelIdeal Cert.KernelIdeal.Gen

/-- The dense part at channel `d` and pixel `p`: the weights' row `d` against the masked row features and the masked global
    features, plus the bias. -/
theorem dense_apply (v0 : Vec Ideal S1x1x1024 .f32) (v2 : Vec Ideal S1x24x1024 .f32) (v4 : Vec Ideal S1x8x1 .f32)
    (v11 : Vec Ideal S256x32 .f32) (v14 : Vec Ideal S256x1 .f32) (d : Fin 256) (p : Fin 1024) :
    k0_pay4 (F := Ideal) v0 v2 v4 v11 v14 (ix2 d p)
      = (∑ c : Fin 24, v11 (ix2 d ⟨c, by omega⟩) * (v2 (ix3 0 c p) * v0 (ix3 0 0 p)))
        + (∑ c : Fin 8, v11 (ix2 d ⟨24 + c, by omega⟩) * (v4 (ix3 0 c 0) * v0 (ix3 0 0 p)))
        + v14 (ix2 d 0) := by
  unfold k0_pay4 k0_pay3
  pointwise!

/-- One entry of a player's half: the table's second row at channel `q`, times the player's unit word read as a number, times
    its count, times the mask. -/
abbrev playerCell (v0 : Vec Ideal S1x1x1024 .f32) (v18 : Vec Ideal S1x2x1024 .i32) (v21 : Vec Ideal S1x2x1024 .f32)
    (v26 : Vec Ideal S128x1 .f32) (q : Fin 128) (r : Fin 2) (p : Fin 1024) : EReal :=
  v26 (ix2 q 0) * ((FloatOps.sitofp (F := Ideal) FTy.f32 (v18 (ix3 0 r p)) : EReal) * v21 (ix3 0 r p) * v0 (ix3 0 0 p))

/-- The first player's half at an entry. -/
theorem player0_apply (v0 : Vec Ideal S1x1x1024 .f32) (v18 : Vec Ideal S1x2x1024 .i32) (v21 : Vec Ideal S1x2x1024 .f32)
    (v26 : Vec Ideal S128x1 .f32) (q : Fin 128) (p : Fin 1024) :
    k0_pay7 (F := Ideal) v0 v18 v21 v26 (ix2 q p) = playerCell v0 v18 v21 v26 q 0 p := by
  unfold k0_pay7 k0_pay6 k0_pay5 k0_pay3
  pointwise!

/-- The second player's half at an entry. -/
theorem player1_apply (v0 : Vec Ideal S1x1x1024 .f32) (v18 : Vec Ideal S1x2x1024 .i32) (v21 : Vec Ideal S1x2x1024 .f32)
    (v26 : Vec Ideal S128x1 .f32) (q : Fin 128) (p : Fin 1024) :
    k0_pay8 (F := Ideal) v0 v18 v21 v26 (ix2 q p) = playerCell v0 v18 v21 v26 q 1 p := by
  unfold k0_pay8 k0_pay6 k0_pay5 k0_pay3
  pointwise!

/-- The two halves stacked in order: channel `d` is the half of player `d / 128`. -/
theorem inOrder_apply (v0 : Vec Ideal S1x1x1024 .f32) (v18 : Vec Ideal S1x2x1024 .i32) (v21 : Vec Ideal S1x2x1024 .f32)
    (v26 : Vec Ideal S128x1 .f32) (d : Fin 256) (p : Fin 1024) :
    k0_pay9 (F := Ideal) v0 v18 v21 v26 (ix2 d p)
      = playerCell v0 v18 v21 v26 ⟨d.val % 128, by omega⟩ ⟨d.val / 128, by omega⟩ p := by
  unfold k0_pay9
  pointwise []
  split
  · rw [player0_apply]
    congr 1
    · exact Fin.ext (by show d.val = d.val % 128; omega)
    · exact Fin.ext (by show 0 = d.val / 128; omega)
  · rw [player1_apply]
    congr 1
    · exact Fin.ext (by show d.val - 128 = d.val % 128; omega)
    · exact Fin.ext (by show 1 = d.val / 128; omega)

/-- What the first store writes at channel `d` and pixel `p`. -/
theorem store0_apply (v17 v36 : FVec Ideal S256x1024 .f32) (d : Fin 256) (p : Fin 1024) :
    k0_pay1 (F := Ideal) v17 v36 (ix4 0 0 d p) = v17 (ix2 d p) + v36 (ix2 d p) := by
  unfold k0_pay1
  pointwise!

/-- What the second store writes at channel `d` and pixel `p`: the halves are stacked the other way round. -/
theorem store1_apply (v17 : FVec Ideal S256x1024 .f32) (v0 : Vec Ideal S1x1x1024 .f32) (v18 : Vec Ideal S1x2x1024 .i32)
    (v21 : Vec Ideal S1x2x1024 .f32) (v26 : Vec Ideal S128x1 .f32) (d : Fin 256) (p : Fin 1024) :
    k0_pay2 (F := Ideal) v17 (k0_pay7 v0 v18 v21 v26) (k0_pay8 v0 v18 v21 v26) (ix4 0 0 d p)
      = v17 (ix2 d p) + playerCell v0 v18 v21 v26 ⟨d.val % 128, by omega⟩ ⟨(d.val / 128 + 1) % 2, by omega⟩ p := by
  unfold k0_pay2
  pointwise []
  congr 1
  split
  · rw [player1_apply]
    congr 1
    · exact Fin.ext (by show d.val = d.val % 128; omega)
    · exact Fin.ext (by show 1 = (d.val / 128 + 1) % 2; omega)
  · rw [player0_apply]
    congr 1
    · exact Fin.ext (by show d.val - 128 = d.val % 128; omega)
    · exact Fin.ext (by show 0 = (d.val / 128 + 1) % 2; omega)

/-- The corner of a three-axis block is its origin. -/
theorem hz3 : (![0, 0, 0] : Fin 3 → Nat) = fun _ => 0 := funext fun a => by fin_cases a <;> rfl
/-- The corner of a two-axis block is its origin. -/
theorem hz2 : (![0, 0] : Fin 2 → Nat) = fun _ => 0 := funext fun a => by fin_cases a <;> rfl

/-- The output block at copy `k`, channel `d`, pixel `p`, as a function of the eight input blocks. -/
abbrev blockCell (x0 : Vec Ideal S1x2x1024 .i32) (x1 : Vec Ideal S1x2x1024 .f32) (x2 : Vec Ideal S1x24x1024 .f32)
    (x3 : Vec Ideal S1x8x1 .f32) (x4 : Vec Ideal S1x1x1024 .f32) (x5 : Vec Ideal S256x32 .f32) (x6 : Vec Ideal S256x1 .f32)
    (x7 : Vec Ideal S128x1 .f32) (k : Fin 2) (d : Fin 256) (p : Fin 1024) : EReal :=
  (∑ c : Fin 24, x5 (ix2 d ⟨c, by omega⟩) * (x2 (ix3 0 c p) * x4 (ix3 0 0 p)))
    + (∑ c : Fin 8, x5 (ix2 d ⟨24 + c, by omega⟩) * (x3 (ix3 0 c 0) * x4 (ix3 0 0 p)))
    + x6 (ix2 d 0)
    + playerCell x4 x0 x1 x7 ⟨d.val % 128, by omega⟩ ⟨(d.val / 128 + k.val) % 2, by omega⟩ p

/-- Of the two stores, the one at copy 1 last, copy 0 reads the first: -/
theorem canon_copy0 (p1 p0 : Vec Ideal S1x1x256x1024 .f32) (d : Fin 256) (p : Fin 1024) :
    View.canon (Val := Elt Ideal) (s := S1x2x256x1024) (e := .f32) [⟨r0_8, p1⟩, ⟨r0_7, p0⟩]
        (ix4 (0 : Fin 1) (0 : Fin 2) d p) = p0 (ix4 0 0 d p) := by
  have e : (ix4 (0 : Fin 1) (0 : Fin 2) d p : S1x2x256x1024.Idx)
      = r0_7.emb (ix4 (0 : Fin 1) (0 : Fin 1) d p : S1x1x256x1024.Idx) := by
    funext a
    match a with
    | ⟨0, _⟩ => rfl
    | ⟨1, _⟩ => rfl
    | ⟨2, _⟩ => exact Fin.ext (by show d.val = 0 + 1 * d.val; omega)
    | ⟨3, _⟩ => exact Fin.ext (by show p.val = 0 + 1 * p.val; omega)
  have hn : (ix4 (0 : Fin 1) (0 : Fin 2) d p : S1x2x256x1024.Idx) ∉ r0_8.set := by
    rw [Rect.mem_set_unit]
    intro h
    exact absurd (show 1 ≤ 0 from (h 1).1) (by omega)
  have h := View.canon_cons_of_not_mem (Val := Elt Ideal) (e := .f32) ⟨r0_8, p1⟩ [⟨r0_7, p0⟩] hn
  rw [h, e]
  exact View.canon_cons_emb _ _ _ _

/-- and copy 1 the second. -/
theorem canon_copy1 (p1 p0 : Vec Ideal S1x1x256x1024 .f32) (d : Fin 256) (p : Fin 1024) :
    View.canon (Val := Elt Ideal) (s := S1x2x256x1024) (e := .f32) [⟨r0_8, p1⟩, ⟨r0_7, p0⟩]
        (ix4 (0 : Fin 1) (1 : Fin 2) d p) = p1 (ix4 0 0 d p) := by
  have e : (ix4 (0 : Fin 1) (1 : Fin 2) d p : S1x2x256x1024.Idx)
      = r0_8.emb (ix4 (0 : Fin 1) (0 : Fin 1) d p : S1x1x256x1024.Idx) := by
    funext a
    match a with
    | ⟨0, _⟩ => rfl
    | ⟨1, _⟩ => rfl
    | ⟨2, _⟩ => exact Fin.ext (by show d.val = 0 + 1 * d.val; omega)
    | ⟨3, _⟩ => exact Fin.ext (by show p.val = 0 + 1 * p.val; omega)
  rw [e]
  exact View.canon_cons_emb _ _ _ _

/-- The body's two stores, read together: the output block holds `blockCell` at every entry. -/
theorem out_apply (x0 : Vec Ideal S1x2x1024 .i32) (x1 : Vec Ideal S1x2x1024 .f32) (x2 : Vec Ideal S1x24x1024 .f32)
    (x3 : Vec Ideal S1x8x1 .f32) (x4 : Vec Ideal S1x1x1024 .f32) (x5 : Vec Ideal S256x32 .f32) (x6 : Vec Ideal S256x1 .f32)
    (x7 : Vec Ideal S128x1 .f32) (k : Fin 2) (d : Fin 256) (p : Fin 1024) :
    out0_8 (F := Ideal) x0 x1 x2 x3 x4 x5 x6 x7 (ix4 0 k d p) = blockCell x0 x1 x2 x3 x4 x5 x6 x7 k d p := by
  unfold out0_8 k0_pay10
  rw [show View.ld x4 r0_0 = x4 from View.ld_unit_zero hz3 _ _, show View.ld x2 r0_1 = x2 from View.ld_unit_zero hz3 _ _,
    show View.ld x3 r0_2 = x3 from View.ld_unit_zero hz3 _ _, show View.ld x5 r0_3 = x5 from View.ld_unit_zero hz2 _ _,
    show View.ld x6 r0_4 = x6 from View.ld_unit_zero hz2 _ _, show View.ld x0 r0_5 = x0 from View.ld_unit_zero hz3 _ _,
    show View.ld x1 r0_5 = x1 from View.ld_unit_zero hz3 _ _, show View.ld x7 r0_6 = x7 from View.ld_unit_zero hz2 _ _]
  match k with
  | ⟨0, _⟩ =>
    refine (canon_copy0 _ _ d p).trans ?_
    rw [store0_apply, dense_apply, inOrder_apply]
    congr 2
    exact Fin.ext (by show d.val / 128 = (d.val / 128 + 0) % 2; omega)
  | ⟨1, _⟩ =>
    refine (canon_copy1 _ _ d p).trans ?_
    rw [store1_apply, dense_apply]

end Cert.KernelIdeal.BlockValue
-- ==== Proof.Region.lean ====
module

public import proofs.«01_k».proof.Proof.Block
public import Idealize.ShloMosaic.Lib.Pipeline.Value
public import Idealize.ShloMosaic.Lib.StableHlo.ReadAt

@[expose] public section

set_option maxRecDepth 16384

noncomputable section

/-! # What the kernel's output array holds after the grid, in terms of the arrays the grid reads -/

open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.BlockValue

/-- The entry of the output array at batch `b`, copy `k`, channel `d`, pixel `p`, as a function of the eight arrays the
    grid reads. -/
abbrev regionCell (A0 : Vec Ideal S64x2x1024 .i32) (A1 : Vec Ideal S64x2x1024 .f32) (A2 : Vec Ideal S64x24x1024 .f32)
    (A3 : Vec Ideal S64x8x1 .f32) (A4 : Vec Ideal S64x1x1024 .f32) (A5 : Vec Ideal S256x32 .f32) (A6 : Vec Ideal S256x1 .f32)
    (A7 : Vec Ideal S128x1 .f32) (b : Fin 64) (k : Fin 2) (d : Fin 256) (p : Fin 1024) : EReal :=
  (∑ c : Fin 24, A5 (ix2 d ⟨c, by omega⟩) * (A2 (ix3 b c p) * A4 (ix3 b 0 p)))
    + (∑ c : Fin 8, A5 (ix2 d ⟨24 + c, by omega⟩) * (A3 (ix3 b c 0) * A4 (ix3 b 0 p)))
    + A6 (ix2 d 0)
    + A7 (ix2 ⟨d.val % 128, by omega⟩ 0)
      * ((FloatOps.sitofp (F := Ideal) FTy.f32 (A0 (ix3 b ⟨(d.val / 128 + k.val) % 2, by omega⟩ p)) : EReal)
        * A1 (ix3 b ⟨(d.val / 128 + k.val) % 2, by omega⟩ p) * A4 (ix3 b 0 p))

variable (m : (ℓ : Loc nD τ sig) → Buf (Elt Ideal) ℓ)

/-- The whole output array. -/
def regionArr (c : Dev nD) : Vec Ideal S64x2x256x1024 .f32 := fun i =>
  regionCell (V m c main_v0) (V m c main_v1) (V m c main_v2) (V m c main_arg3) (V m c main_v3) (V m c main_v4)
    (V m c main_v5) (V m c main_v8) (i 0) (i 1) (i 2) (i 3)

/-- At step `t` the block of the words is batch `t`'s. -/
theorem idx0 : ∀ t : Fin cfg0.N, win0_0.index t 0 * win0_0.size 0 = t.val ∧ win0_0.index t 1 * win0_0.size 1 = 0
    ∧ win0_0.index t 2 * win0_0.size 2 = 0 := by decide +kernel
/-- At step `t` the block of the counts is batch `t`'s. -/
theorem idx1 : ∀ t : Fin cfg0.N, win0_1.index t 0 * win0_1.size 0 = t.val ∧ win0_1.index t 1 * win0_1.size 1 = 0
    ∧ win0_1.index t 2 * win0_1.size 2 = 0 := by decide +kernel
/-- At step `t` the block of the row features is batch `t`'s. -/
theorem idx2 : ∀ t : Fin cfg0.N, win0_2.index t 0 * win0_2.size 0 = t.val ∧ win0_2.index t 1 * win0_2.size 1 = 0
    ∧ win0_2.index t 2 * win0_2.size 2 = 0 := by decide +kernel
/-- At step `t` the block of the global features is batch `t`'s. -/
theorem idx3 : ∀ t : Fin cfg0.N, win0_3.index t 0 * win0_3.size 0 = t.val ∧ win0_3.index t 1 * win0_3.size 1 = 0
    ∧ win0_3.index t 2 * win0_3.size 2 = 0 := by decide +kernel
/-- At step `t` the block of the mask is batch `t`'s. -/
theorem idx4 : ∀ t : Fin cfg0.N, win0_4.index t 0 * win0_4.size 0 = t.val ∧ win0_4.index t 1 * win0_4.size 1 = 0
    ∧ win0_4.index t 2 * win0_4.size 2 = 0 := by decide +kernel
/-- At every step the block of the weights is the whole array. -/
theorem idx5 : ∀ t : Fin cfg0.N, win0_5.index t 0 * win0_5.size 0 = 0 ∧ win0_5.index t 1 * win0_5.size 1 = 0 := by
  decide +kernel
/-- At every step the block of the bias is the whole array. -/
theorem idx6 : ∀ t : Fin cfg0.N, win0_6.index t 0 * win0_6.size 0 = 0 ∧ win0_6.index t 1 * win0_6.size 1 = 0 := by
  decide +kernel
/-- At every step the block of the embedding column is the whole array. -/
theorem idx7 : ∀ t : Fin cfg0.N, win0_7.index t 0 * win0_7.size 0 = 0 ∧ win0_7.index t 1 * win0_7.size 1 = 0 := by
  decide +kernel
/-- At step `t` the output block is batch `t`'s. -/
theorem idx8 : ∀ t : Fin cfg0.N, win0_8.index t 0 * win0_8.size 0 = t.val ∧ win0_8.index t 1 * win0_8.size 1 = 0
    ∧ win0_8.index t 2 * win0_8.size 2 = 0 ∧ win0_8.index t 3 * win0_8.size 3 = 0 := by decide +kernel
/-- Every step writes its output block whole: no block is cut at the array's edge. -/
theorem xs8 : ∀ t : Fin cfg0.N, win0_8.xsize (grid0.coords t) 0 = 1 ∧ win0_8.xsize (grid0.coords t) 1 = 2
    ∧ win0_8.xsize (grid0.coords t) 2 = 256 ∧ win0_8.xsize (grid0.coords t) 3 = 1024 := by decide +kernel

/-- The grid has 64 steps. -/
theorem lt64 (t : Fin cfg0.N) : t.val < 64 := lt_of_lt_of_eq t.isLt N_0

/-- The unit words' block at grid point `t` is the array's batch `t`. -/
theorem iblk0 (c : Dev nD) (t : Fin cfg0.N) (r : Fin 2) (p : Fin 1024) :
    (iblk m c 0 t : Vec Ideal S1x2x1024 .i32) (ix3 0 r p) = (V m c main_v0 : Vec Ideal S64x2x1024 .i32) (ix3 ⟨t.val, lt64 t⟩ r p) := by
  have h := idx0 t
  show (V m c main_v0 : Vec Ideal S64x2x1024 .i32) _ = _
  congr 1
  funext a
  refine Fin.ext ?_
  match a with
  | ⟨0, _⟩ => show win0_0.index t 0 * win0_0.size 0 + 1 * 0 = t.val; omega
  | ⟨1, _⟩ => show win0_0.index t 1 * win0_0.size 1 + 1 * r.val = r.val; omega
  | ⟨2, _⟩ => show win0_0.index t 2 * win0_0.size 2 + 1 * p.val = p.val; omega

/-- The counts' block at grid point `t` is the array's batch `t`. -/
theorem iblk1 (c : Dev nD) (t : Fin cfg0.N) (r : Fin 2) (p : Fin 1024) :
    (iblk m c 1 t : Vec Ideal S1x2x1024 .f32) (ix3 0 r p) = (V m c main_v1 : Vec Ideal S64x2x1024 .f32) (ix3 ⟨t.val, lt64 t⟩ r p) := by
  have h := idx1 t
  show (V m c main_v1 : Vec Ideal S64x2x1024 .f32) _ = _
  congr 1
  funext a
  refine Fin.ext ?_
  match a with
  | ⟨0, _⟩ => show win0_1.index t 0 * win0_1.size 0 + 1 * 0 = t.val; omega
  | ⟨1, _⟩ => show win0_1.index t 1 * win0_1.size 1 + 1 * r.val = r.val; omega
  | ⟨2, _⟩ => show win0_1.index t 2 * win0_1.size 2 + 1 * p.val = p.val; omega

/-- The row features' block at grid point `t` is the array's batch `t`. -/
theorem iblk2 (c : Dev nD) (t : Fin cfg0.N) (r : Fin 24) (p : Fin 1024) :
    (iblk m c 2 t : Vec Ideal S1x24x1024 .f32) (ix3 0 r p) = (V m c main_v2 : Vec Ideal S64x24x1024 .f32) (ix3 ⟨t.val, lt64 t⟩ r p) := by
  have h := idx2 t
  show (V m c main_v2 : Vec Ideal S64x24x1024 .f32) _ = _
  congr 1
  funext a
  refine Fin.ext ?_
  match a with
  | ⟨0, _⟩ => show win0_2.index t 0 * win0_2.size 0 + 1 * 0 = t.val; omega
  | ⟨1, _⟩ => show win0_2.index t 1 * win0_2.size 1 + 1 * r.val = r.val; omega
  | ⟨2, _⟩ => show win0_2.index t 2 * win0_2.size 2 + 1 * p.val = p.val; omega

/-- The global features' block at grid point `t` is the array's batch `t`. -/
theorem iblk3 (c : Dev nD) (t : Fin cfg0.N) (r : Fin 8) :
    (iblk m c 3 t : Vec Ideal S1x8x1 .f32) (ix3 0 r 0) = (V m c main_arg3 : Vec Ideal S64x8x1 .f32) (ix3 ⟨t.val, lt64 t⟩ r 0) := by
  have h := idx3 t
  show (V m c main_arg3 : Vec Ideal S64x8x1 .f32) _ = _
  congr 1
  funext a
  refine Fin.ext ?_
  match a with
  | ⟨0, _⟩ => show win0_3.index t 0 * win0_3.size 0 + 1 * 0 = t.val; omega
  | ⟨1, _⟩ => show win0_3.index t 1 * win0_3.size 1 + 1 * r.val = r.val; omega
  | ⟨2, _⟩ => show win0_3.index t 2 * win0_3.size 2 + 1 * 0 = 0; omega

/-- The mask's block at grid point `t` is the array's batch `t`. -/
theorem iblk4 (c : Dev nD) (t : Fin cfg0.N) (p : Fin 1024) :
    (iblk m c 4 t : Vec Ideal S1x1x1024 .f32) (ix3 0 0 p) = (V m c main_v3 : Vec Ideal S64x1x1024 .f32) (ix3 ⟨t.val, lt64 t⟩ 0 p) := by
  have h := idx4 t
  show (V m c main_v3 : Vec Ideal S64x1x1024 .f32) _ = _
  congr 1
  funext a
  refine Fin.ext ?_
  match a with
  | ⟨0, _⟩ => show win0_4.index t 0 * win0_4.size 0 + 1 * 0 = t.val; omega
  | ⟨1, _⟩ => show win0_4.index t 1 * win0_4.size 1 + 1 * 0 = 0; omega
  | ⟨2, _⟩ => show win0_4.index t 2 * win0_4.size 2 + 1 * p.val = p.val; omega

/-- The weights' block at every grid point is the whole array. -/
theorem iblk5 (c : Dev nD) (t : Fin cfg0.N) (d : Fin 256) (q : Fin 32) :
    (iblk m c 5 t : Vec Ideal S256x32 .f32) (ix2 d q) = (V m c main_v4 : Vec Ideal S256x32 .f32) (ix2 d q) := by
  have h := idx5 t
  show (V m c main_v4 : Vec Ideal S256x32 .f32) _ = _
  congr 1
  funext a
  refine Fin.ext ?_
  match a with
  | ⟨0, _⟩ => show win0_5.index t 0 * win0_5.size 0 + 1 * d.val = d.val; omega
  | ⟨1, _⟩ => show win0_5.index t 1 * win0_5.size 1 + 1 * q.val = q.val; omega

/-- The bias's block at every grid point is the whole array. -/
theorem iblk6 (c : Dev nD) (t : Fin cfg0.N) (d : Fin 256) :
    (iblk m c 6 t : Vec Ideal S256x1 .f32) (ix2 d 0) = (V m c main_v5 : Vec Ideal S256x1 .f32) (ix2 d 0) := by
  have h := idx6 t
  show (V m c main_v5 : Vec Ideal S256x1 .f32) _ = _
  congr 1
  funext a
  refine Fin.ext ?_
  match a with
  | ⟨0, _⟩ => show win0_6.index t 0 * win0_6.size 0 + 1 * d.val = d.val; omega
  | ⟨1, _⟩ => show win0_6.index t 1 * win0_6.size 1 + 1 * 0 = 0; omega

/-- The table row's block at every grid point is the whole array. -/
theorem iblk7 (c : Dev nD) (t : Fin cfg0.N) (d : Fin 128) :
    (iblk m c 7 t : Vec Ideal S128x1 .f32) (ix2 d 0) = (V m c main_v8 : Vec Ideal S128x1 .f32) (ix2 d 0) := by
  have h := idx7 t
  show (V m c main_v8 : Vec Ideal S128x1 .f32) _ = _
  congr 1
  funext a
  refine Fin.ext ?_
  match a with
  | ⟨0, _⟩ => show win0_7.index t 0 * win0_7.size 0 + 1 * d.val = d.val; omega
  | ⟨1, _⟩ => show win0_7.index t 1 * win0_7.size 1 + 1 * 0 = 0; omega

/-- The output block computed at grid point `t` is batch `t` of `regionArr`. -/
theorem block_eq (c : Dev nD) (t : Fin cfg0.N) (k : Fin 2) (d : Fin 256) (p : Fin 1024) :
    out0_8 (iblk m c 0 t) (iblk m c 1 t) (iblk m c 2 t) (iblk m c 3 t) (iblk m c 4 t) (iblk m c 5 t) (iblk m c 6 t)
      (iblk m c 7 t) (ix4 0 k d p) = regionArr m c (ix4 ⟨t.val, lt64 t⟩ k d p) := by
  rw [out_apply]
  show _ = regionCell (V m c main_v0) (V m c main_v1) (V m c main_v2) (V m c main_arg3) (V m c main_v3) (V m c main_v4)
    (V m c main_v5) (V m c main_v8) ⟨t.val, lt64 t⟩ k d p
  unfold blockCell playerCell regionCell
  rw [iblk0, iblk1, iblk4, iblk6, iblk7]
  simp only [iblk2, iblk3, iblk5]

/-- What grid point `t` writes back is its block of `regionArr`. -/
theorem flushed_eq (c : Dev nD) (t : Fin cfg0.N) :
    (dats m 0 c).flushed 8 t = (win0_8.blk t).view.read (Elt Ideal) (regionArr m c) := by
  show (cfg0.win 8).cut (grid0.coords t) ((dats m 0 c).after 8 t) = _
  rw [after0_8]
  have h := idx8 t
  funext j
  have h0 : (j 0).val = 0 := by
    have : (j 0).val < win0_8.xsize (grid0.coords t) 0 := (j 0).isLt
    rw [(xs8 t).1] at this; omega
  have e : (win0_8.blk t).view.read (Elt Ideal) (regionArr m c) j
      = regionArr m c (ix4 ⟨t.val, lt64 t⟩ (⟨(j 1).val, lt_of_lt_of_eq (j 1).isLt (xs8 t).2.1⟩ : Fin 2)
        (⟨(j 2).val, lt_of_lt_of_eq (j 2).isLt (xs8 t).2.2.1⟩ : Fin 256)
        (⟨(j 3).val, lt_of_lt_of_eq (j 3).isLt (xs8 t).2.2.2⟩ : Fin 1024)) := by
    show regionArr m c _ = _
    congr 1
    funext a
    refine Fin.ext ?_
    match a with
    | ⟨0, _⟩ => show win0_8.index t 0 * win0_8.size 0 + 1 * (j 0).val = t.val; omega
    | ⟨1, _⟩ => show win0_8.index t 1 * win0_8.size 1 + 1 * (j 1).val = (j 1).val; omega
    | ⟨2, _⟩ => show win0_8.index t 2 * win0_8.size 2 + 1 * (j 2).val = (j 2).val; omega
    | ⟨3, _⟩ => show win0_8.index t 3 * win0_8.size 3 + 1 * (j 3).val = (j 3).val; omega
  rw [e, ← block_eq]
  show out0_8 _ _ _ _ _ _ _ _ _ = _
  congr 1
  funext a
  refine Fin.ext ?_
  match a with
  | ⟨0, _⟩ => exact h0
  | ⟨1, _⟩ => rfl
  | ⟨2, _⟩ => rfl
  | ⟨3, _⟩ => rfl

/-- An index of the output array lies in grid point `t`'s block exactly when its batch is `t`. -/
theorem mem_blk (t : Fin cfg0.N) (i : S64x2x256x1024.Idx) :
    i ∈ ((cfg0.win 8).blk t).view.set ↔ (i 0 : Nat) = t.val := by
  show i ∈ ((View.whole main_v9).slice (win0_8.rect t)).set ↔ _
  rw [View.set_slice_whole, Rect.mem_set_unit]
  have h := idx8 t
  have hx := xs8 t
  have h1 : (i 1 : Nat) < 2 := (i 1).isLt
  have h2 : (i 2 : Nat) < 256 := (i 2).isLt
  have h3 : (i 3 : Nat) < 1024 := (i 3).isLt
  refine ⟨fun hi => ?_, fun hi a => ?_⟩
  · have h0 : win0_8.index t 0 * win0_8.size 0 ≤ (i 0 : Nat)
        ∧ (i 0 : Nat) < win0_8.index t 0 * win0_8.size 0 + win0_8.xsize (grid0.coords t) 0 := hi 0
    omega
  · match a with
    | ⟨0, _⟩ => show win0_8.index t 0 * win0_8.size 0 ≤ (i 0 : Nat)
                  ∧ (i 0 : Nat) < win0_8.index t 0 * win0_8.size 0 + win0_8.xsize (grid0.coords t) 0
                omega
    | ⟨1, _⟩ => show win0_8.index t 1 * win0_8.size 1 ≤ (i 1 : Nat)
                  ∧ (i 1 : Nat) < win0_8.index t 1 * win0_8.size 1 + win0_8.xsize (grid0.coords t) 1
                omega
    | ⟨2, _⟩ => show win0_8.index t 2 * win0_8.size 2 ≤ (i 2 : Nat)
                  ∧ (i 2 : Nat) < win0_8.index t 2 * win0_8.size 2 + win0_8.xsize (grid0.coords t) 2
                omega
    | ⟨3, _⟩ => show win0_8.index t 3 * win0_8.size 3 ≤ (i 3 : Nat)
                  ∧ (i 3 : Nat) < win0_8.index t 3 * win0_8.size 3 + win0_8.xsize (grid0.coords t) 3
                omega

/-- The 64 blocks fill the output array. -/
theorem cover (i : S64x2x256x1024.Idx) :
    ∃ t : Fin cfg0.N, (cfg0.win 8).flush t = true ∧ i ∈ ((cfg0.win 8).blk t).view.set := by
  have h0 : (i 0 : Nat) < 64 := (i 0).isLt
  refine ⟨⟨(i 0 : Nat), by show _ < grid0.N; rw [N_0]; omega⟩, flush0_8 _, ?_⟩
  rw [mem_blk]

/-- After the grid the output array is `regionArr`. -/
theorem final (c : Dev nD) : (dats m 0 c).arrAt 8 cfg0.N = regionArr m c :=
  (dats m 0 c).arrAt_eq_of_cover 8 (regionArr m c) (fun t _ => flushed_eq m c t) cover

end Cert.KernelIdeal.RegionValue
-- ==== Proof.KernelValue.lean ====
module

public import proofs.«01_k».proof.Proof.Region
public import Idealize.ShloMosaic.Lib.Pointwise

@[expose] public section

set_option maxRecDepth 16384

noncomputable section

/-! # What the arrays the grid reads hold, in terms of the arguments, and what the operations after the grid leave -/

open Idealize.ShloMosaic Idealize.ShloMosaic.TcCoe Idealize.SL.Sem
open Idealize.ShloMosaic.Pipeline (Dat)

namespace Cert.KernelIdeal.OutValue

open Cert.KernelIdeal Cert.KernelIdeal.Gen Cert.KernelIdeal.RegionValue

variable (m : (ℓ : Loc nD τ sig) → Buf (Elt Ideal) ℓ) (c : Dev nD)

/-- The players' words. -/
abbrev units : IVec S64x1x2x32x32 32 := m ((c.tc : Thread nD τ).loc main_arg0)
/-- The counts. -/
abbrev counts : FVec Ideal S64x1x2x32x32 .f32 := m ((c.tc : Thread nD τ).loc main_arg1)
/-- The row features. -/
abbrev rowIn : FVec Ideal S64x24x1x32x32 .f32 := m ((c.tc : Thread nD τ).loc main_arg2)
/-- The global features. -/
abbrev globalIn : FVec Ideal S64x8x1 .f32 := m ((c.tc : Thread nD τ).loc main_arg3)
/-- The mask. -/
abbrev maskIn : FVec Ideal S64x1x32x32 .f32 := m ((c.tc : Thread nD τ).loc main_arg4)
/-- The embedding table. -/
abbrev table : FVec Ideal S2x128 .f32 := m ((c.tc : Thread nD τ).loc main_arg5)
/-- The weights. -/
abbrev weights : FVec Ideal S32x256 .f32 := m ((c.tc : Thread nD τ).loc main_arg6)
/-- The bias. -/
abbrev bias : FVec Ideal S256 .f32 := m ((c.tc : Thread nD τ).loc main_arg7)

/-- The words the grid reads are the argument's, the pixels in one axis. -/
theorem v0_eq : V m c main_v0 = shapeCast _ (units m c) shapeCasts_S64x1x2x32x32_S64x2x1024 := by
  unfold_abbrev_sides
  simp only [List.flatten_cons, List.flatten_nil, List.append_nil]
  after_results
  rfl

/-- The counts the grid reads. -/
theorem v1_eq : V m c main_v1 = shapeCast _ (counts m c) shapeCasts_S64x1x2x32x32_S64x2x1024 := by
  unfold_abbrev_sides
  simp only [List.flatten_cons, List.flatten_nil, List.append_nil]
  after_results
  rfl

/-- The row features the grid reads. -/
theorem v2_eq : V m c main_v2 = shapeCast _ (rowIn m c) shapeCasts_S64x24x1x32x32_S64x24x1024 := by
  unfold_abbrev_sides
  simp only [List.flatten_cons, List.flatten_nil, List.append_nil]
  after_results
  rfl

/-- The mask the grid reads. -/
theorem v3_eq : V m c main_v3 = shapeCast _ (maskIn m c) shapeCasts_S64x1x32x32_S64x1x1024 := by
  unfold_abbrev_sides
  simp only [List.flatten_cons, List.flatten_nil, List.append_nil]
  after_results
  rfl

/-- The weights the grid reads: transposed. -/
theorem v4_eq : V m c main_v4 = transpose S256x32 [1, 0] (weights m c) transposes_S32x256_S256x32_1_0 := by
  unfold_abbrev_sides
  simp only [List.flatten_cons, List.flatten_nil, List.append_nil]
  after_results

/-- The bias the grid reads: a column. -/
theorem v5_eq : V m c main_v5 = shapeCast _ (bias m c) shapeCasts_S256_S256x1 := by
  unfold_abbrev_sides
  simp only [List.flatten_cons, List.flatten_nil, List.append_nil]
  after_results
  rfl

/-- The embedding the grid reads: the table's row 1 as a column. -/
theorem v8_eq : V m c main_v8
    = shapeCast S128x1 (shapeCast S128 (extractStridedSlice S1x128 ![1, 0] (table m c) slices_S2x128_S1x128_1_0)
        shapeCasts_S1x128_S128) shapeCasts_S128_S128x1 := by
  unfold_abbrev_sides
  simp only [List.flatten_cons, List.flatten_nil, List.append_nil]
  after_results
  rfl

/-- The kernel's first result, read off the whole output array. -/
def out0 : Vec Ideal S128x256x32x32 .f32 := shapeCast _ (regionArr m c) shapeCasts_S64x2x256x1024_S128x256x32x32

/-- The kernel's second result. -/
def out1 : Vec Ideal S128x1x32x32 .f32 :=
  shapeCast _ (broadcastInDim S64x2x1x32x32 ![0, 1, 2, 3, 4] bcast_S64x1x1x32x32_S64x2x1x32x32_0_1_2_3_4
    (broadcastInDim S64x1x1x32x32 ![0, 2, 3, 4] bcast_S64x1x32x32_S64x1x1x32x32_0_2_3_4 (maskIn m c)))
    shapeCasts_S64x2x1x32x32_S128x1x32x32

/-- The first result after the whole program. -/
theorem tail0 : Pipeline.afterTail₀ cfgs (dats m) 0 (V0 m) [hostOps1] c main_v10 = out0 m c := by
  unfold Pipeline.afterTail₀ out0
  simp only [List.flatten_cons, List.flatten_nil, List.append_nil]
  after_results
  rw [Pipeline.withArrays_arr spec0 (by decide) c (V0 m c) _ 8]
  exact congrArg (fun a => shapeCast _ a shapeCasts_S64x2x256x1024_S128x256x32x32) (final m c)

/-- The second result after the whole program. -/
theorem tail1 : Pipeline.afterTail₀ cfgs (dats m) 0 (V0 m) [hostOps1] c main_v13 = out1 m c := by
  unfold Pipeline.afterTail₀ out1
  simp only [List.flatten_cons, List.flatten_nil, List.append_nil]
  after_results
  rw [Pipeline.withArrays_of_ne _ c (V0 m c) _ main_arg4 (by exact (by decide : ∀ w, Pipeline.arrRef spec0 w ≠ main_arg4))]
  rw [show V0 m c (Proc.devRef .tc main_arg4) = maskIn m c from V_main_arg4 m c]
  rfl

/-- The kernel's first result at copy `n`, channel `d`, place `(h, w)`, in terms of the arguments. -/
theorem out0_apply (n : Fin 128) (d : Fin 256) (h w : Fin 32) :
    out0 m c (ix4 n d h w)
      = ((∑ q : Fin 24, weights m c (ix2 ⟨q, by omega⟩ d)
            * (rowIn m c (ix5 ⟨n.val / 2, by omega⟩ q 0 h w) * maskIn m c (ix4 ⟨n.val / 2, by omega⟩ 0 h w)))
          + (∑ q : Fin 8, weights m c (ix2 ⟨24 + q, by omega⟩ d)
            * (globalIn m c (ix3 ⟨n.val / 2, by omega⟩ q 0) * maskIn m c (ix4 ⟨n.val / 2, by omega⟩ 0 h w)))
          + bias m c (ix1 d)
          + table m c (ix2 1 ⟨d.val % 128, by omega⟩)
            * ((FloatOps.sitofp (F := Ideal) FTy.f32
                  (units m c (ix5 ⟨n.val / 2, by omega⟩ 0 ⟨(d.val / 128 + n.val % 2) % 2, by omega⟩ h w)) : EReal)
              * counts m c (ix5 ⟨n.val / 2, by omega⟩ 0 ⟨(d.val / 128 + n.val % 2) % 2, by omega⟩ h w)
              * maskIn m c (ix4 ⟨n.val / 2, by omega⟩ 0 h w)) : EReal) := by
  have e : out0 m c (ix4 n d h w)
      = regionArr m c (ix4 ⟨n.val / 2, by omega⟩ ⟨n.val % 2, by omega⟩ d ⟨h.val * 32 + w.val, by omega⟩) := by
    unfold out0
    pointwise []
  rw [e]
  unfold regionArr
  rw [v0_eq, v1_eq, v2_eq, v3_eq, v4_eq, v5_eq, v8_eq, V_main_arg3]
  dsimp only [regionCell]
  pointwise []

/-- Every execution of the kernel leaves the two results at these terms and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v10) = out0 m c
      ∧ r.2.mem ((c.tc : Thread nD τ).loc main_v13) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v10 (Pipeline.mem_restRefs_of main_v10 (by decide) (by decide))).trans (tail0 m c),
     ((h.1 c).2 main_v13 (Pipeline.mem_restRefs_of main_v13 (by decide) (by decide))).trans (tail1 m c), h.2 c⟩)
    (θ_run_and (run_main m ρ) (unchanged m ρ))

end Cert.KernelIdeal.OutValue

end
-- ==== Proof.Equal.lean ====
module

public import proofs.«01_k».proof.Proof.RefValue
public import proofs.«01_k».proof.Proof.KernelValue

@[expose] public section

set_option maxRecDepth 16384

noncomputable section

/-! # The kernel's two results are the reference's -/

open Idealize.ShloMosaic Idealize.ShloMosaic.TcCoe Idealize.SL.Sem

namespace Cert.Equal

/-- One player's share of a channel. With the word 0 both sides are zero, the kernel's because the word multiplies, the
    reference's because row 0 of the table is zero; with the word 1 both are row 1's entry times count times mask. -/
theorem unit_part (E : Fin 2 → EReal) (hE : E 0 = 0) (r : Fin 2) (C M : EReal) :
    E 1 * ((FloatOps.sitofp (F := Ideal) FTy.f32 (BitVec.ofNat 32 r.val) : EReal) * C * M) = E r * M * C := by
  have s : ∀ x : BitVec 32, (FloatOps.sitofp (F := Ideal) FTy.f32 x : EReal) = ((x.toInt : ℝ) : EReal) := fun _ => rfl
  have w : ∀ r : Fin 2, (BitVec.ofNat 32 r.val).toInt = (r.val : Int) := by decide
  rw [s, w]
  rcases (show r = 0 ∨ r = 1 by omega) with rfl | rfl
  · rw [hE]
    simp
  · rw [show (((((1 : Fin 2).val : Int) : ℝ)) : EReal) = 1 by norm_num, one_mul, mul_comm C M, mul_assoc]

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The first results are equal, where the arguments agree, every word is 0 or 1 and row 0 of the table is zero. -/
theorem out0_eq (h0 : ReferenceIdeal.OutValue.units m' c = KernelIdeal.OutValue.units m c)
    (h1 : ReferenceIdeal.OutValue.counts m' c = KernelIdeal.OutValue.counts m c)
    (h2 : ReferenceIdeal.OutValue.rowIn m' c = KernelIdeal.OutValue.rowIn m c)
    (h3 : ReferenceIdeal.OutValue.globalIn m' c = KernelIdeal.OutValue.globalIn m c)
    (h4 : ReferenceIdeal.OutValue.maskIn m' c = KernelIdeal.OutValue.maskIn m c)
    (h5 : ReferenceIdeal.OutValue.table m' c = KernelIdeal.OutValue.table m c)
    (h6 : ReferenceIdeal.OutValue.weights m' c = KernelIdeal.OutValue.weights m c)
    (h7 : ReferenceIdeal.OutValue.bias m' c = KernelIdeal.OutValue.bias m c)
    (hU : ∀ i, ∃ r : Fin 2, KernelIdeal.OutValue.units m c i = BitVec.ofNat 32 r.val)
    (hE : ∀ q : Fin 128, KernelIdeal.OutValue.table m c (ix2 0 q) = (0 : EReal)) :
    ReferenceIdeal.Value.res_out0 m' c = KernelIdeal.OutValue.out0 m c := by
  funext i
  obtain ⟨n, d, h, w, rfl⟩ : ∃ (n : Fin 128) (d : Fin 256) (h w : Fin 32), i = ix4 n d h w :=
    ⟨i 0, i 1, i 2, i 3, by funext a; fin_cases a <;> rfl⟩
  obtain ⟨r, hr⟩ := hU (ix5 ⟨n.val / 2, by omega⟩ 0 ⟨(d.val / 128 + n.val % 2) % 2, by omega⟩ h w)
  rw [ReferenceIdeal.OutValue.out0_apply m' c n d h w r ((congrFun h0 _).trans hr), KernelIdeal.OutValue.out0_apply,
    h1, h2, h3, h4, h5, h6, h7, hr,
    unit_part (fun r => KernelIdeal.OutValue.table m c (ix2 r ⟨d.val % 128, by omega⟩)) (hE _) r]

/-- The second results are equal, where the masks agree. -/
theorem out1_eq (h4 : ReferenceIdeal.OutValue.maskIn m' c = KernelIdeal.OutValue.maskIn m c) :
    ReferenceIdeal.Pieces.mask (ReferenceIdeal.OutValue.maskIn m' c) = KernelIdeal.OutValue.out1 m c := by
  rw [h4]
  funext i
  obtain ⟨n, z, h, w, rfl⟩ : ∃ (n : Fin 128) (z : Fin 1) (h w : Fin 32), i = ix4 n z h w :=
    ⟨i 0, i 1, i 2, i 3, by funext a; fin_cases a <;> rfl⟩
  obtain rfl : z = 0 := Subsingleton.elim _ _
  refine (ReferenceIdeal.Pieces.mask_apply _ n h w).trans ?_
  unfold KernelIdeal.OutValue.out1
  pointwise []

end Cert.Equal

end
-- ==== Proof.lean ====
module

public import proofs.«01_k».proof.Proof.Gen.ReferenceIdeal.Run
public import proofs.«01_k».proof.Proof.Pre
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_ok
public import Idealize.ShloMosaic.Adequacy
public import Idealize.ShloMosaic.Init

@[expose] public section

noncomputable section

namespace Cert.Proof

open Idealize.ShloMosaic Idealize.SL.Sem

/-- The reference runs, leaves its arguments unchanged and ends with every semaphore counter at zero. -/
theorem reference_frame : quiescent_ReferenceIdeal := fun m ρ _ =>
  (θ_run _ _ _).mono (fun r h => ⟨fun c => (h c).2.2, sem_eq_zero_of_no_sems (by decide) r.2⟩)
    (Cert.ReferenceIdeal.Value.run (F := Ideal) m ρ)

/-- The idealized kernel and the reference end with equal results. -/
theorem equal : algebraic_KernelIdeal_ReferenceIdeal_pre_inputs_ok := fun m g m' g' hpre hargs =>
  ⟨fun c => Cert.KernelIdeal.OutValue.out0 m c, fun c => Cert.KernelIdeal.OutValue.out1 m c,
    Cert.KernelIdeal.OutValue.run m g,
    (θ_run _ _ _).mono (fun _ h c => by
      obtain ⟨h0, h1, h2, h3, h4, h5, h6, h7⟩ := hargs c
      exact ⟨(h c).1.trans (Cert.Equal.out0_eq m m' c h0 h1 h2 h3 h4 h5 h6 h7
          (Cert.Pre_inputs_ok.Read.units_two _ _ _ _ _ _ _ _ (hpre c).1)
          (Cert.Pre_inputs_ok.Read.row_zero _ _ _ _ _ _ _ _ (hpre c).2)),
        (h c).2.1.trans (Cert.Equal.out1_eq m m' c h4), (h c).2.2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Pre_inputs_ok.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    equal⟩

end Cert.Proof

end
